-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S128x32768 : Shape := ⟨2, ![128, 32768]⟩
abbrev S_ : Shape := ⟨0, ![]⟩

class Facts : Prop where
  bcast_S_S128x32768 : S_.BroadcastsInDim S128x32768 (![] : Fin 0 → Fin S128x32768.rank)
  reducesTo_S128x32768_S_d0_1 : S128x32768.ReducesTo [0, 1] S_
  h_S_ : 0 < S_.numel

variable [Facts]

def fn {F : FTy → Type} [FloatOps F] (main_arg0 : FVec F S128x32768 .f32) : IVec S_ 1 :=
  let main_v0 : FVec F S128x32768 .f32 := Host.absf main_arg0
  let main_cst : FVec F S_ .f32 := constant S_ .f32 0x7F800000#32
  let main_v1 : FVec F S128x32768 .f32 := broadcastInDim S128x32768 ![] bcast_S_S128x32768 main_cst
  let main_v2 : IVec S128x32768 1 := cmpf .olt main_v0 main_v1
  let main_c : IVec S_ 1 := constantI S_ 1 1#1
  let main_v3 : IVec S_ 1 := (fun x v => Host.reduce IntOp.andi x v reducesTo_S128x32768_S_d0_1 h_S_) main_v2 main_c
  main_v3
-- ==== Kernel.lean ====
abbrev S128x32768 : Shape := ⟨2, ![128, 32768]⟩
abbrev S16x32768 : Shape := ⟨2, ![16, 32768]⟩

abbrev nBuf : Space → Nat
  | .hbm => 3
  | .vmem => 6
  | .smem => 0
  | _ => 0

abbrev bufTy : (tb : Table) → Fin (tcTables nBuf tb) → BufTy
  | .hbm, ⟨0, _⟩ => ⟨S128x32768, .f32⟩
  | .hbm, ⟨1, _⟩ => ⟨S128x32768, .f32⟩
  | .hbm, ⟨2, _⟩ => ⟨S128x32768, .f32⟩
  | .local _ .vmem, ⟨0, _⟩ => ⟨S16x32768, .f32⟩
  | .local _ .vmem, ⟨1, _⟩ => ⟨S16x32768, .f32⟩
  | .local _ .vmem, ⟨2, _⟩ => ⟨S16x32768, .f32⟩
  | .local _ .vmem, ⟨3, _⟩ => ⟨S16x32768, .f32⟩
  | .local _ .vmem, ⟨4, _⟩ => ⟨S16x32768, .f32⟩
  | .local _ .vmem, ⟨5, _⟩ => ⟨S16x32768, .f32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_1 : BitVec 32 := 0#32
  let v3 : BitVec 1 := Scalar.cmpi .ne v2 c0_i32_1
  v3

def k0_cond2 (i : grid0.Coords) : BitVec 1 :=
  let arg0 : BitVec 32 := BitVec.ofNat 32 (i 0).val
  let c0_i32_2 : BitVec 32 := 0#32
  let v4 : BitVec 1 := Scalar.cmpi .ne arg0 c0_i32_2
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x32768 : Shape := ⟨2, ![128, 32768]⟩
abbrev S32768x16385 : Shape := ⟨2, ![32768, 16385]⟩
abbrev S_ : Shape := ⟨0, ![]⟩
abbrev S128x16385 : Shape := ⟨2, ![128, 16385]⟩
abbrev S1 : Shape := ⟨1, ![1]⟩
abbrev S16385 : Shape := ⟨1, ![16385]⟩
abbrev S128x5 : Shape := ⟨2, ![128, 5]⟩
abbrev S1x16385 : Shape := ⟨2, ![1, 16385]⟩
abbrev S16385x32768 : Shape := ⟨2, ![16385, 32768]⟩

abbrev nBuf : Space → Nat
  | .hbm => 75
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S32768x16385, .i32⟩
  | .hbm, ⟨2, _⟩ => ⟨S32768x16385, .i32⟩
  | .hbm, ⟨3, _⟩ => ⟨S_, .f32⟩
  | .hbm, ⟨4, _⟩ => ⟨S_, .f32⟩
  | .hbm, ⟨5, _⟩ => ⟨S32768x16385, .i32⟩
  | .hbm, ⟨6, _⟩ => ⟨S_, .i32⟩
  | .hbm, ⟨7, _⟩ => ⟨S32768x16385, .i32⟩
  | .hbm, ⟨8, _⟩ => ⟨S32768x16385, .i32⟩
  | .hbm, ⟨9, _⟩ => ⟨S32768x16385, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S32768x16385, .f32⟩
  | .hbm, ⟨16, _⟩ => ⟨S32768x16385, .f32⟩
  | .hbm, ⟨17, _⟩ => ⟨S32768x16385, .f32⟩
  | .hbm, ⟨18, _⟩ => ⟨S32768x16385, .f32⟩
  | .hbm, ⟨19, _⟩ => ⟨S128x16385, .f32⟩
  | .hbm, ⟨20, _⟩ => ⟨S128x16385, .f32⟩
  | .hbm, ⟨21, _⟩ => ⟨S128x16385, .f32⟩
  | .hbm, ⟨22, _⟩ => ⟨S128x16385, .f32⟩
  | .hbm, ⟨23, _⟩ => ⟨S128x16385, .f32⟩
  | .hbm, ⟨24, _⟩ => ⟨S128x16385, .f32⟩
  | .hbm, ⟨25, _⟩ => ⟨S128x16385, .f32⟩
  | .hbm, ⟨26, _⟩ => ⟨S_, .i32⟩
  | .hbm, ⟨27, _⟩ => ⟨S1, .i32⟩
  | .hbm, ⟨28, _⟩ => ⟨S_, .f32⟩
  | .hbm, ⟨29, _⟩ => ⟨S16385, .f32⟩
  | .hbm, ⟨30, _⟩ => ⟨S128x16385, .f32⟩
  | .hbm, ⟨31, _⟩ => ⟨S128x5, .f32⟩
  | .hbm, ⟨32, _⟩ => ⟨S128x5, .i32⟩
  | .hbm, ⟨33, _⟩ => ⟨S_, .f32⟩
  | .hbm, ⟨34, _⟩ => ⟨S_, .f32⟩
  | .hbm, ⟨35, _⟩ => ⟨S128x16385, .f32⟩
  | .hbm, ⟨36, _⟩ => ⟨S128x16385, .i1⟩
  | .hbm, ⟨37, _⟩ => ⟨S_, .f32⟩
  | .hbm, ⟨38, _⟩ => ⟨S_, .f32⟩
  | .hbm, ⟨39, _⟩ => ⟨S128x16385, .f32⟩
  | .hbm, ⟨40, _⟩ => ⟨S128x16385, .f32⟩
  | .hbm, ⟨41, _⟩ => ⟨S128x16385, .f32⟩
  | .hbm, ⟨42, _⟩ => ⟨S128x16385, .i1⟩
  | .hbm, ⟨43, _⟩ => ⟨S_, .f32⟩
  | .hbm, ⟨44, _⟩ => ⟨S_, .f32⟩
  | .hbm, ⟨45, _⟩ => ⟨S128x16385, .f32⟩
  | .hbm, ⟨46, _⟩ => ⟨S128x16385, .f32⟩
  | .hbm, ⟨47, _⟩ => ⟨S1x16385, .i32⟩
  | .hbm, ⟨48, _⟩ => ⟨S_, .i32⟩
  | .hbm, ⟨49, _⟩ => ⟨S1x16385, .i32⟩
  | .hbm, ⟨50, _⟩ => ⟨S1x16385, .i1⟩
  | .hbm, ⟨51, _⟩ => ⟨S_, .i32⟩
  | .hbm, ⟨52, _⟩ => ⟨S1x16385, .i32⟩
  | .hbm, ⟨53, _⟩ => ⟨S1x16385, .i1⟩
  | .hbm, ⟨54, _⟩ => ⟨S1x16385, .i1⟩
  | .hbm, ⟨55, _⟩ => ⟨S_, .f32⟩
  | .hbm, ⟨56, _⟩ => ⟨S_, .f32⟩
  | .hbm, ⟨57, _⟩ => ⟨S1x16385, .f32⟩
  | .hbm, ⟨58, _⟩ => ⟨S1x16385, .f32⟩
  | .hbm, ⟨59, _⟩ => ⟨S1x16385, .f32⟩
  | .hbm, ⟨60, _⟩ => ⟨S1x16385, .f32⟩
  | .hbm, ⟨61, _⟩ => ⟨S128x16385, .f32⟩
  | .hbm, ⟨62, _⟩ => ⟨S128x16385, .f32⟩
  | .hbm, ⟨63, _⟩ => ⟨S16385x32768, .f32⟩
  | .hbm, ⟨64, _⟩ => ⟨S128x32768, .f32⟩
  | .hbm, ⟨65, _⟩ => ⟨S1x16385, .f32⟩
  | .hbm, ⟨66, _⟩ => ⟨S128x16385, .f32⟩
  | .hbm, ⟨67, _⟩ => ⟨S128x16385, .f32⟩
  | .hbm, ⟨68, _⟩ => ⟨S16385x32768, .f32⟩
  | .hbm, ⟨69, _⟩ => ⟨S128x32768, .f32⟩
  | .hbm, ⟨70, _⟩ => ⟨S128x32768, .f32⟩
  | .hbm, ⟨71, _⟩ => ⟨S_, .f32⟩
  | .hbm, ⟨72, _⟩ => ⟨S128x32768, .f32⟩
  | .hbm, ⟨73, _⟩ => ⟨S128x32768, .f32⟩
  | .hbm, ⟨74, _⟩ => ⟨S128x32768, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_values : Ref sig .tc := ⟨.hbm, 31, rfl⟩
abbrev main_indices : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_call1_v0 : Ref sig .tc := ⟨.hbm, 44, rfl⟩
abbrev main_call1_v1 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_c_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_cst_10 : Ref sig .tc := ⟨.hbm, 56, rfl⟩
abbrev main_call2_v0 : Ref sig .tc := ⟨.hbm, 57, rfl⟩
abbrev main_call2_v1 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Proof.KernelValue.lean ====
/-
  What the kernel's two result arrays hold at the end, at any float values: the seasonal part is the argument with its
  row 0 set to zero, the residual is that row 0 over zeros. Each is read off the eight blocks of 16 rows that the grid's
  points write back, and the blocks cover the array.
-/
module

public import proofs.«01_k».proof.Proof.Gen.KernelIdeal.Value
public import Idealize.ShloMosaic.Lib.Pipeline.ValueKit

@[expose] public section

noncomputable section

open Idealize.ShloMosaic Idealize.ShloMosaic.TcCoe Idealize.SL.Sem

namespace Cert.KernelIdeal.Arrays

open Cert.KernelIdeal Cert.KernelIdeal.Gen

variable {F : FTy → Type} [FloatOps F]
variable (m : (ℓ : Loc nD τ sig) → Buf (Elt F) ℓ) (ρ : Dev nD → PrngReg)

/-- The argument array of device `c` as an array of 128 rows of 32768 floats. -/
abbrev arg (c : Dev nD) : FVec F S128x32768 .f32 := m ((c : Thread nD τ).loc main_arg0)

/-- The zero that the kernel writes. -/
abbrev zero : F .f32 := Scalar.ofBits .f32 0x00000000#32

/-- The seasonal part: the argument without its row 0. -/
def season (c : Dev nD) : FVec F S128x32768 .f32 := fun i => if (i 0).val = 0 then zero else arg m c i

/-- The residual: the argument's row 0 alone. -/
def resid (c : Dev nD) : FVec F S128x32768 .f32 := fun i => if (i 0).val = 0 then arg m c i else zero

/-- The body's mask at a place of its block: set on row 0. -/
theorem mask_apply (y : S16x32768.Idx) : k0_pay1 y = if (y 0).val = 0 then 1#1 else 0#1 := by
  have key : ∀ r < 16, IntOp.cmpi .eq (BitVec.ofNat 32 r) 0#32 = if r = 0 then 1#1 else 0#1 := by decide
  have h := key _ (y 0).isLt
  unfold k0_pay1
  pointwise
  exact h

/-- The first point's block of the seasonal part: the input block with row 0 at zero. -/
theorem pay2_apply (x : FVec F S16x32768 .f32) (y : S16x32768.Idx) : k0_pay2 x y = if (y 0).val = 0 then zero else x y := by
  show (if k0_pay1 y = 1#1 then zero else x y) = _
  rw [mask_apply]
  split_ifs <;> first | rfl | contradiction

/-- The first point's block of the residual: the input block's row 0 over zeros. -/
theorem pay3_apply (x : FVec F S16x32768 .f32) (y : S16x32768.Idx) : k0_pay3 x y = if (y 0).val = 0 then x y else zero := by
  show (if k0_pay1 y = 1#1 then x y else zero) = _
  rw [mask_apply]
  split_ifs <;> first | rfl | contradiction

/-- Block `t` of the input and of either result starts at row `16 t`. -/
theorem row_of (t : Fin cfg0.N) : (win0_0.index t 0 = t.val ∧ win0_0.index t 1 = 0) ∧ (win0_1.index t 0 = t.val ∧ win0_1.index t 1 = 0)
    ∧ (win0_2.index t 0 = t.val ∧ win0_2.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0)) t

/-- Row 0 of the block that point `t` writes to the seasonal part is row `16 t` of the array. -/
theorem season_row (t : Fin cfg0.N) (y : S16x32768.Idx) :
    (((((win0_1.blk t).view.emb y) : S128x32768.Idx) 0 : Fin 128) : ℕ) = t.val * 16 + (y 0).val := by
  blk_simp [(row_of t).2.1.1]

/-- Row 0 of the block that point `t` writes to the residual is row `16 t` of the array. -/
theorem resid_row (t : Fin cfg0.N) (y : S16x32768.Idx) :
    (((((win0_2.blk t).view.emb y) : S128x32768.Idx) 0 : Fin 128) : ℕ) = t.val * 16 + (y 0).val := by
  blk_simp [(row_of t).2.2.1]

/-- The input block of point `t` is the argument where the seasonal part's block stands. -/
theorem input_season (c : Dev nD) (t : Fin cfg0.N) (y : S16x32768.Idx) : iblk m c 0 t y = arg m c ((win0_1.blk t).view.emb y) := by
  blk_simp [iblk]
  refine (congrFun (V_main_arg0 m c) _).trans (congrArg (arg m c) ?_)
  funext a
  apply Fin.ext
  match a with
  | ⟨0, _⟩ => blk_simp [(row_of t).1.1, (row_of t).2.1.1]
  | ⟨1, _⟩ => blk_simp [(row_of t).1.2, (row_of t).2.1.2]

/-- The input block of point `t` is the argument where the residual's block stands. -/
theorem input_resid (c : Dev nD) (t : Fin cfg0.N) (y : S16x32768.Idx) : iblk m c 0 t y = arg m c ((win0_2.blk t).view.emb y) := by
  blk_simp [iblk]
  refine (congrFun (V_main_arg0 m c) _).trans (congrArg (arg m c) ?_)
  funext a
  apply Fin.ext
  match a with
  | ⟨0, _⟩ => blk_simp [(row_of t).1.1, (row_of t).2.2.1]
  | ⟨1, _⟩ => blk_simp [(row_of t).1.2, (row_of t).2.2.2]

/-- The claimed seasonal part in block `t`, by the input block. -/
theorem season_block (c : Dev nD) (t : Fin cfg0.N) (y : S16x32768.Idx) :
    season m c ((win0_1.blk t).view.emb y) = if t.val * 16 + (y 0).val = 0 then zero else iblk m c 0 t y :=
  if_congr (Eq.congr_left (season_row t y)) rfl (input_season m c t y).symm

/-- The claimed residual in block `t`, by the input block. -/
theorem resid_block (c : Dev nD) (t : Fin cfg0.N) (y : S16x32768.Idx) :
    resid m c ((win0_2.blk t).view.emb y) = if t.val * 16 + (y 0).val = 0 then iblk m c 0 t y else zero :=
  if_congr (Eq.congr_left (resid_row t y)) (input_resid m c t y).symm rfl

/-- The seasonal part's array at the end. -/
theorem season_eq (c : Dev nD) : (dats m 0 c).arrAt 1 cfg0.N = season m c := by
  refine (dats m 0 c).arrAt_eq_of_covers 1 _ (by decide +kernel) fun t hf y => ?_
  blk_simp
  have hN : t.val < 8 := Nat.lt_of_lt_of_eq t.isLt N_0
  refine Eq.trans ?_ (season_block m c t y).symm
  rw [after0_1]
  by_cases h1 : 1 ≤ t.val
  · rw [outsAt0_B m c t (by omega) h1]
    frame_out
    exact (if_neg (by omega)).symm
  · rw [outsAt0_A m c t (by omega) h1]
    frame_out
    rw [pay2_apply]
    exact if_congr (by omega) rfl rfl

/-- The residual's array at the end. -/
theorem resid_eq (c : Dev nD) : (dats m 0 c).arrAt 2 cfg0.N = resid m c := by
  refine (dats m 0 c).arrAt_eq_of_covers 2 _ (by decide +kernel) fun t hf y => ?_
  blk_simp
  have hN : t.val < 8 := Nat.lt_of_lt_of_eq t.isLt N_0
  refine Eq.trans ?_ (resid_block m c t y).symm
  rw [after0_2]
  by_cases h1 : 1 ≤ t.val
  · rw [outsAt0_B m c t (by omega) h1]
    frame_out
    exact (if_neg (by omega)).symm
  · rw [outsAt0_A m c t (by omega) h1]
    frame_out
    rw [pay3_apply]
    exact if_congr (by omega) rfl rfl

/-- The kernel's run: both result arrays at these values, the argument unchanged. -/
theorem run : θ_run defs (onTc (τ := τ) (main (F := F))) ⟨m, fun _ => 0, ρ⟩ fun r => ∀ c : Dev nD,
      r.2.mem ((c : Thread nD τ).loc main_v0_1) = resid m c
      ∧ r.2.mem ((c : Thread nD τ).loc main_v0_0) = season m c
      ∧ r.2.mem ((c : Thread nD τ).loc main_arg0) = m ((c : Thread nD τ).loc main_arg0) :=
  (θ_run defs _ _).mono (fun _ h c => ⟨(h c).2.1.trans (resid_eq m c), (h c).1.trans (season_eq m c), (h c).2.2⟩)
    (Value.run_blocks m ρ)

end Cert.KernelIdeal.Arrays

end
-- ==== Proof.Reference.lean ====
/-
  The reference's two results, cut into named steps: the angles, the real and imaginary parts of the transform, the
  magnitudes with row 0 at zero, the threshold, the parts kept, the weights, and the transform back.
-/
module

public import proofs.«01_k».proof.Proof.Gen.ReferenceIdeal.Run
public import Idealize.ShloMosaic.PureOps.Ideal

@[expose] public section

noncomputable section

open Idealize.ShloMosaic Idealize.ShloMosaic.TcCoe Idealize.SL.Sem

namespace Cert.ReferenceIdeal.Steps

open Cert.ReferenceIdeal Cert.ReferenceIdeal.Gen

/-- The angle at each time (row) and frequency (column). -/
def angles : FVec Ideal S32768x16385 .f32 :=
  mulf (sitofp .f32 (Host.remsi (muli (iotaInDim S32768x16385 32 0) (iotaInDim S32768x16385 32 1))
      (broadcastInDim S32768x16385 ![] bcast_S_S32768x16385 (constantI S_ 32 32768#32))))
    (broadcastInDim S32768x16385 ![] bcast_S_S32768x16385
      (id (Host.divf (mulf (constant S_ .f32 0x40000000#32) (Host.acos (constant S_ .f32 0xBF800000#32))) (constant S_ .f32 0x47000000#32))))

/-- The real parts of the transform of each row. -/
def re (x : FVec Ideal S128x32768 .f32) : FVec Ideal S128x16385 .f32 :=
  Host.dotGeneral dot_S128x32768_S32768x16385_S128x16385_1_0_0_1_n_n none x (Host.cos angles)

/-- The imaginary parts of the transform of each row. -/
def im (x : FVec Ideal S128x32768 .f32) : FVec Ideal S128x16385 .f32 :=
  Host.negf (Host.dotGeneral dot_S128x32768_S32768x16385_S128x16385_1_0_0_1_n_n none x (Host.sin angles))

/-- The magnitudes, those of row 0 replaced by zero. -/
def freq (x : FVec Ideal S128x32768 .f32) : FVec Ideal S128x16385 .f32 :=
  Host.scatter scatter_S128x16385_S1_S16385_0_0_0_0 (fun _ b => b)
    (Host.sqrt (addf (mulf (re x) (re x)) (mulf (im x) (im x))))
    (broadcastInDim S1 ![] bcast_S_S1 (constantI S_ 32 0#32)) (broadcastInDim S16385 ![] bcast_S_S16385 (constant S_ .f32 0x00000000#32))

/-- The threshold: the least of the five greatest magnitudes of every row. -/
def thr (x : FVec Ideal S128x32768 .f32) : FVec Ideal S_ .f32 :=
  Host.reduce FloatOps.minimumf ((Host.topK S128x5 1 (FloatOps.cmpfTotal .gt) (freq x) sliceFits_S128x16385_S128x5).1)
    (constant S_ .f32 0x7F800000#32) reducesTo_S128x5_S_d0_1 h_S_

/-- A part of the transform with the entries of magnitude up to the threshold replaced by zero. -/
def kept (x : FVec Ideal S128x32768 .f32) (p : FVec Ideal S128x16385 .f32) : FVec Ideal S128x16385 .f32 :=
  select (cmpf .ole (freq x) (broadcastInDim S128x16385 ![] bcast_S_S128x16385 (thr x)))
    (broadcastInDim S128x16385 ![] bcast_S_S128x16385 (id (constant S_ .f32 0x00000000#32))) p

/-- The weights of the transform back. -/
def weights : FVec Ideal S128x16385 .f32 :=
  broadcastInDim S128x16385 ![0, 1] bcast_S1x16385_S128x16385_0_1 (id (select
    (ori (cmpi .eq (iotaInDim S1x16385 32 1) (broadcastInDim S1x16385 ![] bcast_S_S1x16385 (constantI S_ 32 0#32)))
      (cmpi .eq (iotaInDim S1x16385 32 1) (broadcastInDim S1x16385 ![] bcast_S_S1x16385 (constantI S_ 32 16384#32))))
    (broadcastInDim S1x16385 ![] bcast_S_S1x16385 (constant S_ .f32 0x3F800000#32))
    (broadcastInDim S1x16385 ![] bcast_S_S1x16385 (constant S_ .f32 0x40000000#32))))

/-- A part of the transform, weighted and summed against a table of cosines or sines. -/
def back (p : FVec Ideal S128x16385 .f32) (table : FVec Ideal S32768x16385 .f32) : FVec Ideal S128x32768 .f32 :=
  Host.dotGeneral dot_S128x16385_S16385x32768_S128x32768_1_0_0_1_n_n none (mulf p weights)
    (transpose S16385x32768 [1, 0] table transposes_S32768x16385_S16385x32768_1_0)

/-- The seasonal part. -/
def season (x : FVec Ideal S128x32768 .f32) : FVec Ideal S128x32768 .f32 :=
  mulf (subf (back (kept x (re x)) (Host.cos angles)) (back (kept x (im x)) (Host.sin angles)))
    (broadcastInDim S128x32768 ![] bcast_S_S128x32768 (constant S_ .f32 0x38000000#32))

set_option maxRecDepth 8192 in
/-- The reference's second result is the seasonal part of the argument. -/
theorem out1_eq (m : (ℓ : Loc nD τ sig) → Buf (Elt Ideal) ℓ) (c : Dev nD) :
    Value.res_out1 m c = season (m ((c : Thread nD τ).loc main_arg0)) := by
  unfold Value.res_out1 Value.res_main_v50 season back kept thr freq re im weights angles
  rfl

set_option maxRecDepth 8192 in
/-- The reference's first result is the argument less its seasonal part. -/
theorem out0_eq (m : (ℓ : Loc nD τ sig) → Buf (Elt Ideal) ℓ) (c : Dev nD) :
    Value.res_out0 m c = subf (s := S128x32768) (φ := .f32) (m ((c : Thread nD τ).loc main_arg0)) (season (m ((c : Thread nD τ).loc main_arg0))) := by
  unfold Value.res_out0 Value.res_main_v51 season back kept thr freq re im weights angles
  rfl

end Cert.ReferenceIdeal.Steps

end
-- ==== Proof.Fourier.lean ====
/-
  The mathematics of the reference: the discrete Fourier transform of a real sequence of even length `N = 2M`, kept at
  its frequencies `0 … M` only, and transformed back with the weights 1 at the two ends and 2 between, is the sequence
  times `N`. Everything here is about real numbers.
-/
module

public import Mathlib.Analysis.SpecialFunctions.Trigonometric.Basic
public import Mathlib.Analysis.SpecialFunctions.Complex.Log
public import Mathlib.Algebra.Ring.GeomSum

@[expose] public section

noncomputable section

namespace Fourier

open Finset

/-- The angle that the reference takes the cosine and the sine of: the product of time and frequency, reduced modulo
    the length, times a step of `2π / N`. -/
def angle (N t k : ℕ) : ℝ := ((t * k % N : ℕ) : ℝ) * (2 * Real.pi / N)

/-- The weight of frequency `k ≤ M` in the transform back. -/
def weight (M k : ℕ) : ℝ := if k = 0 ∨ k = M then 1 else 2

/-- Reducing the product modulo the length takes whole turns off the angle. -/
theorem angle_eq {N : ℕ} (hN : 0 < N) (t k : ℕ) :
    angle N t k = 2 * Real.pi * (t * k) / N - (t * k / N : ℕ) * (2 * Real.pi) := by
  have hN' : (N : ℝ) ≠ 0 := by positivity
  have h : ((t * k % N : ℕ) : ℝ) = (t * k : ℝ) - N * (t * k / N : ℕ) := by
    have := Nat.div_add_mod (t * k) N
    have h2 : ((N * (t * k / N) + t * k % N : ℕ) : ℝ) = ((t * k : ℕ) : ℝ) := by rw [this]
    push_cast at h2 ⊢
    linarith
  rw [angle, h]
  field_simp

theorem cos_angle {N : ℕ} (hN : 0 < N) (t k : ℕ) : Real.cos (angle N t k) = Real.cos (2 * Real.pi * (t * k) / N) := by
  rw [angle_eq hN, Real.cos_sub_nat_mul_two_pi]

theorem sin_angle {N : ℕ} (hN : 0 < N) (t k : ℕ) : Real.sin (angle N t k) = Real.sin (2 * Real.pi * (t * k) / N) := by
  rw [angle_eq hN, Real.sin_sub_nat_mul_two_pi]

/-- The cosines at all `N` multiples of a whole number `d` of steps add up to `N` if `d` is a multiple of `N` and to 0
    otherwise: the sum of the `N` powers of a root of unity. -/
theorem sum_cos_full {N : ℕ} (hN : 0 < N) (d : ℤ) :
    ∑ k ∈ range N, Real.cos (2 * Real.pi * (d * k) / N) = if (N : ℤ) ∣ d then (N : ℝ) else 0 := by
  have hN' : (N : ℝ) ≠ 0 := by positivity
  split_ifs with h
  · obtain ⟨e, rfl⟩ := h
    rw [Finset.sum_congr rfl (g := fun _ => (1 : ℝ)), Finset.sum_const, card_range, nsmul_eq_mul, mul_one]
    intro k _
    have : 2 * Real.pi * (((N * e : ℤ) : ℝ) * k) / N = ((e * k : ℤ) : ℝ) * (2 * Real.pi) := by
      push_cast; field_simp
    rw [this, Real.cos_int_mul_two_pi]
  · set z : ℂ := Complex.exp (2 * Real.pi * d / N * Complex.I) with hz
    have hNC : (N : ℂ) ≠ 0 := by exact_mod_cast hN.ne'
    have hpow : ∀ k : ℕ, z ^ k = Complex.exp ((2 * Real.pi * (d * k) / N : ℝ) * Complex.I) := by
      intro k
      rw [hz, ← Complex.exp_nat_mul]
      congr 1
      push_cast
      ring
    have hzN : z ^ N = 1 := by
      rw [hpow, Complex.exp_eq_one_iff]
      refine ⟨d, ?_⟩
      push_cast
      field_simp
    have hz1 : z ≠ 1 := by
      intro h1
      rw [hz, Complex.exp_eq_one_iff] at h1
      obtain ⟨n, hn⟩ := h1
      apply h
      refine ⟨n, ?_⟩
      have hpi : (2 * (Real.pi : ℂ) * Complex.I) ≠ 0 := Complex.two_pi_I_ne_zero
      have h2 : (2 * (Real.pi : ℂ) * Complex.I) * (d : ℂ) = (2 * (Real.pi : ℂ) * Complex.I) * (N * n) := by
        have h3 := congrArg (· * (N : ℂ)) hn
        rw [div_mul_eq_mul_div, div_mul_cancel₀ _ hNC] at h3
        linear_combination h3
      have h4 := mul_left_cancel₀ hpi h2
      exact_mod_cast h4
    have hsum : ∑ k ∈ range N, z ^ k = 0 := by
      have := geom_sum_mul z N
      rw [hzN, sub_self] at this
      exact (mul_eq_zero.mp this).resolve_right (sub_ne_zero.mpr hz1)
    have hre := congrArg Complex.re hsum
    rw [Complex.re_sum] at hre
    rw [← Complex.zero_re, ← hre]
    refine Finset.sum_congr rfl fun k _ => ?_
    rw [hpow, Complex.exp_ofReal_mul_I_re]

/-- A sum over `0 … 2M - 1` of a function with `f (2M - k) = f k` is the weighted sum over `0 … M`. -/
theorem sum_fold {M : ℕ} (hM : 0 < M) (f : ℕ → ℝ) (hf : ∀ k, 0 < k → k < M → f (2 * M - k) = f k) :
    ∑ k ∈ range (M + 1), weight M k * f k = ∑ k ∈ range (2 * M), f k := by
  obtain ⟨m, rfl⟩ : ∃ m, M = m + 1 := ⟨M - 1, by omega⟩
  have h2 : 2 * (m + 1) = (m + 1) + 1 + m := by ring
  rw [h2, Finset.sum_range_add f (m + 1 + 1) m, Finset.sum_range_succ f (m + 1), Finset.sum_range_succ' f m,
    Finset.sum_range_succ (fun k => weight (m + 1) k * f k) (m + 1), Finset.sum_range_succ' (fun k => weight (m + 1) k * f k) m]
  have hback : ∑ i ∈ range m, f (m + 1 + 1 + i) = ∑ i ∈ range m, f (i + 1) := by
    rw [← Finset.sum_range_reflect (fun i => f (i + 1))]
    refine Finset.sum_congr rfl fun i hi => ?_
    have hi' := mem_range.mp hi
    rw [← hf (m - 1 - i + 1) (by omega) (by omega)]
    congr 1
    omega
  have hmid : ∑ i ∈ range m, weight (m + 1) (i + 1) * f (i + 1) = 2 * ∑ i ∈ range m, f (i + 1) := by
    rw [Finset.mul_sum]
    refine Finset.sum_congr rfl fun i hi => ?_
    have hi' := mem_range.mp hi
    rw [weight, if_neg (by omega)]
  rw [hback, hmid]
  simp only [weight, true_or, or_true, if_true]
  ring

/-- The weighted cosines over the half of the frequencies: `2M` where the two times agree, 0 elsewhere. -/
theorem sum_cos_half {M : ℕ} (hM : 0 < M) (t s : ℕ) (ht : t < 2 * M) (hs : s < 2 * M) :
    ∑ k ∈ range (M + 1), weight M k * Real.cos (2 * Real.pi * (((t : ℤ) - s : ℤ) * k) / (2 * M : ℕ))
      = if t = s then ((2 * M : ℕ) : ℝ) else 0 := by
  have hN : 0 < 2 * M := by omega
  have hN' : ((2 * M : ℕ) : ℝ) ≠ 0 := by positivity
  rw [sum_fold hM (fun k => Real.cos (2 * Real.pi * (((t : ℤ) - s : ℤ) * k) / (2 * M : ℕ))), sum_cos_full hN]
  · refine if_congr ?_ rfl rfl
    constructor
    · intro h
      have := Int.eq_zero_of_abs_lt_dvd h (by rw [abs_lt]; push_cast; constructor <;> omega)
      omega
    · rintro rfl; simp
  · intro k hk hkM
    have hcast : ((2 * M - k : ℕ) : ℝ) = ((2 * M : ℕ) : ℝ) - k := by rw [Nat.cast_sub (by omega)]
    have : 2 * Real.pi * (((t : ℤ) - s : ℤ) * ((2 * M - k : ℕ) : ℝ)) / (2 * M : ℕ)
        = (((t : ℤ) - s : ℤ) : ℝ) * (2 * Real.pi) - 2 * Real.pi * (((t : ℤ) - s : ℤ) * k) / (2 * M : ℕ) := by
      rw [hcast]; field_simp
    simp only [this, Real.cos_int_mul_two_pi_sub]

/-- **Inversion.** The transform of a real sequence `x` of length `2M` — real parts `∑ x cos`, imaginary parts
    `-∑ x sin` at the frequencies `0 … M` —, weighted and transformed back, is `x` times the length. -/
theorem inversion {M : ℕ} (hM : 0 < M) (x : Fin (2 * M) → ℝ) (s : Fin (2 * M)) :
    (∑ k : Fin (M + 1), (∑ t : Fin (2 * M), x t * Real.cos (angle (2 * M) t k)) * weight M k * Real.cos (angle (2 * M) s k))
      - (∑ k : Fin (M + 1), (-∑ t : Fin (2 * M), x t * Real.sin (angle (2 * M) t k)) * weight M k * Real.sin (angle (2 * M) s k))
      = ((2 * M : ℕ) : ℝ) * x s := by
  have hN : 0 < 2 * M := by omega
  have hterm : ∀ t : Fin (2 * M), ∑ k : Fin (M + 1), weight M k * Real.cos (2 * Real.pi * (((t.val : ℤ) - s.val : ℤ) * (k.val : ℝ)) / (2 * M : ℕ))
      = if t = s then ((2 * M : ℕ) : ℝ) else 0 := by
    intro t
    rw [Fin.sum_univ_eq_sum_range (fun k => weight M k * Real.cos (2 * Real.pi * (((t.val : ℤ) - s.val : ℤ) * (k : ℝ)) / (2 * M : ℕ))),
      sum_cos_half hM _ _ t.isLt s.isLt]
    exact if_congr Fin.val_inj rfl rfl
  calc _ = ∑ k : Fin (M + 1), ∑ t : Fin (2 * M), x t * (weight M k * Real.cos (2 * Real.pi * (((t.val : ℤ) - s.val : ℤ) * (k.val : ℝ)) / (2 * M : ℕ))) := by
        rw [← Finset.sum_sub_distrib]
        refine Finset.sum_congr rfl fun k _ => ?_
        rw [neg_mul, neg_mul, sub_neg_eq_add, Finset.sum_mul, Finset.sum_mul, Finset.sum_mul, Finset.sum_mul,
          ← Finset.sum_add_distrib]
        refine Finset.sum_congr rfl fun t _ => ?_
        have : 2 * Real.pi * (((t.val : ℤ) - s.val : ℤ) * (k.val : ℝ)) / (2 * M : ℕ)
            = 2 * Real.pi * ((t.val : ℝ) * k.val) / (2 * M : ℕ) - 2 * Real.pi * ((s.val : ℝ) * k.val) / (2 * M : ℕ) := by
          push_cast; ring
        rw [this, Real.cos_sub, cos_angle hN, cos_angle hN, sin_angle hN, sin_angle hN]
        ring
    _ = ∑ t : Fin (2 * M), x t * ∑ k : Fin (M + 1), weight M k * Real.cos (2 * Real.pi * (((t.val : ℤ) - s.val : ℤ) * (k.val : ℝ)) / (2 * M : ℕ)) := by
        rw [Finset.sum_comm]
        exact Finset.sum_congr rfl fun t _ => (Finset.mul_sum _ _ _).symm
    _ = _ := by
        simp only [hterm, mul_ite, mul_zero, Finset.sum_ite_eq', Finset.mem_univ, if_true]
        ring

/-- The same with the number of times and the number of frequencies as numbers of their own. -/
theorem inversion_at {M N K : ℕ} (hN : N = 2 * M) (hK : K = M + 1) (hM : 0 < M) (x : Fin N → ℝ) (s : Fin N) :
    (∑ k : Fin K, (∑ t, x t * Real.cos (angle N t k)) * weight M k * Real.cos (angle N s k))
      - (∑ k : Fin K, (-∑ t, x t * Real.sin (angle N t k)) * weight M k * Real.sin (angle N s k)) = (N : ℝ) * x s := by
  subst hN hK
  exact inversion hM x s

end Fourier

end
-- ==== Proof.Angles.lean ====
/-
  What the reference's table of angles holds: at time `t` and frequency `k`, `(t * k) mod 32768` times `2π / 32768`; and what
  its weights hold: 1 at the first and last frequency, 2 at the others.
-/
module

public import proofs.«01_k».proof.Proof.Reference
public import proofs.«01_k».proof.Proof.Fourier
public import Idealize.ShloMosaic.Lib.Pointwise
public import Idealize.ShloMosaic.Lib.ValueIdx
public import Idealize.ShloMosaic.PureOps.Ideal.Laws
public import Idealize.ShloMosaic.Lib.Routing.Words

@[expose] public section

noncomputable section

open Idealize.ShloMosaic

namespace Cert.ReferenceIdeal.Steps

open Cert.ReferenceIdeal Cert.ReferenceIdeal.Gen

/-- The word of 2. -/
theorem two_word : Ideal.ofBits .f32 0x40000000#32 = ((2 : ℝ) : EReal) := by
  simp [Ideal.ofBits, Ideal.ieee, -EReal.coe_mul]; norm_num

/-- The word of -1. -/
theorem neg_one_word : Ideal.ofBits .f32 0xBF800000#32 = ((-1 : ℝ) : EReal) := by
  simp [Ideal.ofBits, Ideal.ieee, -EReal.coe_mul]; norm_num

/-- The word of 32768. -/
theorem length_word : Ideal.ofBits .f32 0x47000000#32 = ((32768 : ℝ) : EReal) := by
  simp [Ideal.ofBits, Ideal.ieee, -EReal.coe_mul]; norm_num

/-- The word of 1 / 32768. -/
theorem inv_length_word : Ideal.ofBits .f32 0x38000000#32 = ((1 / 32768 : ℝ) : EReal) := by
  simp [Ideal.ofBits, Ideal.ieee, -EReal.coe_mul]; norm_num

/-- The remainder the table's integers hold: no product of a time and a frequency leaves the words. -/
theorem phase_word (t : Fin 32768) (k : Fin 16385) :
    IntOp.remsi ArithUnit.host (IntOp.muli (BitVec.ofNat 32 t.val) (BitVec.ofNat 32 k.val)) 32768#32
      = BitVec.ofNat 32 (t.val * k.val % 32768) := by
  have h : IntOp.muli (BitVec.ofNat 32 t.val) (BitVec.ofNat 32 k.val) = BitVec.ofNat 32 (t.val * k.val) := by
    rw [BitVec.ofNat_mul]; rfl
  have hb : t.val * k.val < 2 ^ 31 :=
    (Nat.mul_le_mul (Nat.le_of_lt_succ t.isLt) (Nat.le_of_lt_succ k.isLt)).trans_lt (by norm_num)
  rw [h]
  exact Routing.remsi_word ArithUnit.host hb (by norm_num) (by norm_num)

/-- One entry of the table of angles. -/
theorem angles_at (t : Fin 32768) (k : Fin 16385) :
    angles (ix2 t k) = ((Fourier.angle 32768 t.val k.val : ℝ) : EReal) := by
  unfold angles
  simp only [id_eq]
  pointwise
  rw [phase_word, two_word, neg_one_word, length_word, Ideal.acos_coe, if_pos (by norm_num), Real.arccos_neg_one,
    Ideal.div_coe (by norm_num)]
  have hw : FloatOps.sitofp (F := Ideal) FTy.f32 (BitVec.ofNat 32 (t.val * k.val % 32768))
      = (((t.val * k.val % 32768 : ℕ) : ℝ) : EReal) := by
    show (((BitVec.ofNat 32 (t.val * k.val % 32768)).toInt : ℝ) : EReal) = _
    have hlt : t.val * k.val % 32768 < 32768 := Nat.mod_lt _ (by norm_num)
    rw [WordCmp.toInt_ofNat_of_lt (by omega)]
    push_cast
    rfl
  rw [hw, ← EReal.coe_mul, ← EReal.coe_mul, ← EReal.coe_mul]
  unfold Fourier.angle
  congr 1
  push_cast
  ring

/-- One weight. -/
theorem weights_at (r : Fin 128) (k : Fin 16385) :
    weights (ix2 r k) = ((Fourier.weight 16384 k.val : ℝ) : EReal) := by
  unfold weights
  simp only [id_eq]
  pointwise
  have hz : (IntOp.cmpi CmpIPredicate.eq (BitVec.ofNat 32 k.val) 0#32) = BitVec.ofBool (decide (k.val = 0)) := by
    show BitVec.ofBool (BitVec.ofNat 32 k.val == 0#32) = _
    congr 1
    rw [Bool.beq_eq_decide_eq]
    refine decide_eq_decide.2 ⟨fun h => ?_, fun h => by rw [h]⟩
    have := congrArg BitVec.toNat h
    simp at this
    omega
  have hm : (IntOp.cmpi CmpIPredicate.eq (BitVec.ofNat 32 k.val) 16384#32) = BitVec.ofBool (decide (k.val = 16384)) := by
    show BitVec.ofBool (BitVec.ofNat 32 k.val == 16384#32) = _
    congr 1
    rw [Bool.beq_eq_decide_eq]
    refine decide_eq_decide.2 ⟨fun h => ?_, fun h => by rw [h]⟩
    have := congrArg BitVec.toNat h
    simp at this
    omega
  rw [hz, hm, two_word]
  unfold Fourier.weight
  by_cases h0 : k.val = 0
  · by_cases h1 : k.val = 16384 <;> simp [h0, h1, IntOp.ori, Scalar.select]
  · by_cases h1 : k.val = 16384 <;> simp [h0, h1, IntOp.ori, Scalar.select]

/-- One entry of the transform back: the weighted sum over the frequencies. -/
theorem back_at (p : FVec Ideal S128x16385 .f32) (table : FVec Ideal S32768x16385 .f32) (r : Fin 128) (s : Fin 32768) :
    back p table (ix2 r s) = ∑ k : Fin 16385, p (ix2 r k) * weights (ix2 r k) * table (ix2 s k) := by
  unfold back
  generalize weights = w
  pointwise

end Cert.ReferenceIdeal.Steps

end
-- ==== Proof.Selection.lean ====
/-
  The reference's selection, one operation at a time: the write of a constant into row 0 of an array, the greatest
  entries of each row, and the least of all of those. Of the greatest entries only this is used: each is an entry of its
  own row. So if row 0 is zero and no entry is negative, the least of them all is zero, whatever the other rows hold.
-/
module

public import Idealize.ShloMosaic.Lib.Routing.OpsSet
public import Idealize.ShloMosaic.Lib.ReduceAll
public import Idealize.ShloMosaic.PureOps.Ideal

@[expose] public section

noncomputable section

namespace Selection

open Idealize.ShloMosaic Idealize.ShloMosaic.ValueIdx Idealize.ShloMosaic.Routing

/-! ## The write into row 0 -/

/-- Entry `k'` of the written row goes to row 0, column `k'`. -/
theorem lands {R C : Nat} (d : ScatterDims (shape2 R C) (shape1 1) (shape1 C)) (hw : d.updateWindowDims = [0])
    (hiw : d.insertedWindowDims = [0]) (hsd : d.scatterDimsToOperandDims = [0]) (idx : IVec (shape1 1) 32) (hidx : ∀ i, idx i = 0#32)
    (k' : Fin C) (r : Fin R) (k : Fin C) : d.resultIdx? (ix1 k') idx = some (ix2 r k) ↔ r.val = 0 ∧ k' = k := by
  have hkept : d.sKept = [1] := by
    show (shape2 R C).kept d.insertedWindowDims = _
    rw [hiw]; rfl
  have w0 : d.window (ix1 k') 0 = 0 := by
    unfold ScatterDims.window
    exact dif_neg (by rw [hkept]; exact fun h => absurd (List.mem_singleton.1 h) (by decide : (0 : Fin 2) ≠ 1))
  have w1 : d.window (ix1 k') 1 = k'.val := by
    unfold ScatterDims.window
    rw [dif_pos (by rw [hkept]; exact List.mem_singleton.2 rfl)]
    have one : ∀ a : Fin 1, (ix1 k' a).val = k'.val := fun a => by
      obtain rfl : a = 0 := Subsingleton.elim _ _
      rfl
    exact one _
  have s0 : d.start (ix1 k') idx 0 = 0 := by
    unfold ScatterDims.start
    rw [dif_pos (by rw [hsd]; exact List.mem_singleton.2 rfl), hidx]
    rfl
  have s1 : d.start (ix1 k') idx 1 = 0 := by
    unfold ScatterDims.start
    exact dif_neg (by rw [hsd]; exact fun h => absurd (List.mem_singleton.1 h) (by decide : (1 : Fin 2) ≠ 0))
  rw [resultIdx?_ix2, w0, w1, s0, s1, Fin.ext_iff]
  omega

/-- Writing one value `v` all along row 0: `v` there, the operand elsewhere. -/
theorem write_row {α : Type} {R C : Nat} (d : ScatterDims (shape2 R C) (shape1 1) (shape1 C)) (hw : d.updateWindowDims = [0])
    (hiw : d.insertedWindowDims = [0]) (hsd : d.scatterDimsToOperandDims = [0]) (x : (shape2 R C).Idx → α) (idx : IVec (shape1 1) 32)
    (hidx : ∀ i, idx i = 0#32) (upd : (shape1 C).Idx → α) (v : α) (hupd : ∀ i, upd i = v) (r : Fin R) (k : Fin C) :
    Host.scatter d (fun _ b => b) x idx upd (ix2 r k) = if r.val = 0 then v else x (ix2 r k) := by
  by_cases h : r.val = 0
  · rw [if_pos h]
    exact scatter_set_hit d x idx upd _ v (fun k' _ => hupd k') (ix1 k) ((lands d hw hiw hsd idx hidx k r k).2 ⟨h, rfl⟩)
  · rw [if_neg h]
    refine scatter_set_miss d x idx upd _ fun j hj => h ?_
    rw [eq_ix1 j] at hj
    exact ((lands d hw hiw hsd idx hidx _ r k).1 hj).1

/-! ## The greatest entries of each row -/

/-- A sort along the rows of a matrix moves entries within their rows only. -/
theorem sort_mem {α β : Type} {R C : Nat} (cmp : α × β → α × β → BitVec 1) (x : (shape2 R C).Idx → α) (y : (shape2 R C).Idx → β)
    (j : (shape2 R C).Idx) : ∃ k : Fin C, (Host.sort2 (shape2 R C) 1 cmp x y).1 j = x (ix2 (j 0) k) := by
  have h : ∃ k : Fin C, (Host.sort2 (shape2 R C) 1 cmp x y).1 j = x (Shape.Idx.along j (1 : Fin 2) k) := by
    unfold Host.sort2
    rw [dif_pos (show 1 < (shape2 R C).rank from Nat.one_lt_two)]
    exact ⟨_, rfl⟩
  obtain ⟨k, hk⟩ := h
  refine ⟨k, hk.trans (congrArg x (funext fun a => ?_))⟩
  match a with
  | ⟨0, _⟩ => exact Function.update_of_ne (by decide : (0 : Fin 2) ≠ 1) _ j
  | ⟨1, _⟩ => exact Function.update_self (1 : Fin 2) _ j

/-- Each of a row's greatest entries is an entry of that row. -/
theorem top_mem {α : Type} {R C K : Nat} (gt : α → α → BitVec 1) (x : (shape2 R C).Idx → α) (h : (shape2 R C).Slices (fun _ => 0) (shape2 R K))
    (r : Fin R) (i : Fin K) : ∃ k : Fin C, (Host.topK (shape2 R K) 1 gt x h).1 (ix2 r i) = x (ix2 r k) := by
  unfold Host.topK extractStridedSlice
  obtain ⟨k, hk⟩ := sort_mem (fun l r => gt l.1 r.1) x
    (fun i => if hd : 1 < (shape2 R C).rank then iotaInDim (shape2 R C) 32 ⟨1, hd⟩ i else 0#32)
    (fun a => ⟨0 + ((ix2 r i : (shape2 R K).Idx) (a.cast h.1.symm)).val,
      Nat.lt_of_lt_of_le (Nat.add_lt_add_left ((ix2 r i : (shape2 R K).Idx) _).isLt _) (h.2 a)⟩)
  refine ⟨k, hk.trans (congrArg (fun q => x (ix2 q k)) (Fin.ext ?_))⟩
  show 0 + r.val = r.val
  omega

/-! ## The least of an array -/

/-- A running minimum stays above a bound that its start and all its entries keep. -/
theorem le_running {ι : Type} (f : ι → EReal) (b : EReal) :
    ∀ (l : List ι) (z : EReal), b ≤ z → (∀ i ∈ l, b ≤ f i) → b ≤ l.foldl (fun r i => min r (f i)) z
  | [], _, hz, _ => hz
  | a :: l, z, hz, hf =>
    le_running f b l (min z (f a)) (le_min hz (hf a List.mem_cons_self)) fun i hi => hf i (List.mem_cons_of_mem _ hi)

/-- It ends no higher than its start, -/
theorem running_le_start {ι : Type} (f : ι → EReal) : ∀ (l : List ι) (z : EReal), l.foldl (fun r i => min r (f i)) z ≤ z
  | [], _ => le_rfl
  | a :: l, z => (running_le_start f l (min z (f a))).trans (min_le_left _ _)

/-- and no higher than any of its entries. -/
theorem running_le {ι : Type} (f : ι → EReal) : ∀ (l : List ι) (z : EReal) (i : ι), i ∈ l → l.foldl (fun r i => min r (f i)) z ≤ f i
  | a :: l, z, i, hi => by
    rcases List.mem_cons.1 hi with rfl | hi
    · exact (running_le_start f l _).trans (min_le_right _ _)
    · exact running_le f l _ i hi

/-- The least of an array of entries none of which is negative and one of which is zero. -/
theorem least_eq_zero {s t u : Shape} {axes : List (Fin s.rank)} [Subsingleton t.Idx] (x : FVec Ideal s .f32) (init : FVec Ideal u .f32)
    (h : s.ReducesTo axes t) (hu : 0 < u.numel) (j : t.Idx) (hi : (0 : EReal) ≤ init (Shape.Idx.first hu)) (hx : ∀ i, (0 : EReal) ≤ x i)
    (i₀ : s.Idx) (h₀ : x i₀ = (0 : EReal)) : Host.reduce (FloatOps.minimumf (F := Ideal) (φ := .f32)) x init h hu j = (0 : EReal) := by
  rw [Host.reduce_eq_foldl]
  refine le_antisymm ?_ ?_
  · refine le_trans (running_le x _ _ i₀ ?_) (le_of_eq h₀)
    rw [List.mem_filter]
    exact ⟨List.mem_map.2 ⟨s.rowMajor i₀, List.mem_finRange _, Equiv.symm_apply_apply _ _⟩, decide_eq_true (Subsingleton.elim _ _)⟩
  · exact le_running x 0 _ _ hi fun i _ => hx i

end Selection

end
-- ==== Proof.Spectrum.lean ====
/-
  What the reference's transform holds for real entries: sums of real products with cosines and sines; magnitudes that are
  never negative, and zero in row 0; a threshold that is zero, since row 0 has only zero magnitudes and the threshold is the
  least of the greatest magnitudes of every row. So the parts kept are zero in row 0 and the whole transform elsewhere.
-/
module

public import proofs.«01_k».proof.Proof.Angles
public import proofs.«01_k».proof.Proof.Selection

@[expose] public section

noncomputable section

open Idealize.ShloMosaic

namespace Cert.ReferenceIdeal.Steps

open Cert.ReferenceIdeal Cert.ReferenceIdeal.Gen

/-- A sum of real numbers, among the extended reals. -/
theorem coe_total {n : ℕ} (f : Fin n → ℝ) : ((∑ i, f i : ℝ) : EReal) = ∑ i, (f i : EReal) :=
  map_sum (⟨⟨fun a : ℝ => (a : EReal), rfl⟩, EReal.coe_add⟩ : ℝ →+ EReal) f Finset.univ

/-- The cosine table. -/
theorem cos_at (t : Fin 32768) (k : Fin 16385) :
    Host.cos (F := Ideal) angles (ix2 t k) = ((Real.cos (Fourier.angle 32768 t.val k.val) : ℝ) : EReal) := by
  pointwise
  rw [angles_at]
  rfl

/-- The sine table. -/
theorem sin_at (t : Fin 32768) (k : Fin 16385) :
    Host.sin (F := Ideal) angles (ix2 t k) = ((Real.sin (Fourier.angle 32768 t.val k.val) : ℝ) : EReal) := by
  pointwise
  rw [angles_at]
  rfl

section Values

variable (x : FVec Ideal S128x32768 .f32) (y : Fin 128 → Fin 32768 → ℝ) (hy : ∀ r t, x (ix2 r t) = (y r t : EReal))

/-- The real part of the transform of row `r` at frequency `k`. -/
def reR (r : Fin 128) (k : Fin 16385) : ℝ := ∑ t, y r t * Real.cos (Fourier.angle 32768 t.val k.val)

/-- The imaginary part of the transform of row `r` at frequency `k`. -/
def imR (r : Fin 128) (k : Fin 16385) : ℝ := -∑ t, y r t * Real.sin (Fourier.angle 32768 t.val k.val)

include hy

/-- The real parts, as the reference computes them. -/
theorem re_at (r : Fin 128) (k : Fin 16385) : re x (ix2 r k) = (reR y r k : EReal) := by
  have h : re x (ix2 r k) = ∑ t : Fin 32768, x (ix2 r t) * Host.cos (F := Ideal) angles (ix2 t k) := by
    unfold re
    generalize Host.cos (F := Ideal) angles = table
    pointwise
  rw [h, reR, coe_total]
  exact Finset.sum_congr rfl fun t _ => by rw [hy, cos_at, EReal.coe_mul]

/-- The imaginary parts, as the reference computes them. -/
theorem im_at (r : Fin 128) (k : Fin 16385) : im x (ix2 r k) = (imR y r k : EReal) := by
  have h : im x (ix2 r k) = -∑ t : Fin 32768, x (ix2 r t) * Host.sin (F := Ideal) angles (ix2 t k) := by
    unfold im
    generalize Host.sin (F := Ideal) angles = table
    pointwise
  rw [h, imR, EReal.coe_neg, coe_total]
  exact congrArg _ (Finset.sum_congr rfl fun t _ => by rw [hy, sin_at, EReal.coe_mul])

/-- The magnitudes. -/
theorem freq_at (r : Fin 128) (k : Fin 16385) :
    freq x (ix2 r k) = if r.val = 0 then 0 else ((Real.sqrt (reR y r k ^ 2 + imR y r k ^ 2) : ℝ) : EReal) := by
  unfold freq
  rw [ix2_eq_valueIdx]
  refine (Selection.write_row scatter_S128x16385_S1_S16385_0_0_0_0 rfl rfl rfl _ _ (fun _ => rfl) _ (0 : EReal) (fun i => ?_) r k).trans ?_
  · exact Ideal.ofBits_zero_f32
  · rw [← ix2_eq_valueIdx]
    refine if_congr Iff.rfl rfl ?_
    pointwise
    rw [re_at x y hy, im_at x y hy, ← EReal.coe_mul, ← EReal.coe_mul, ← EReal.coe_add, Ideal.sqrt_coe,
      if_neg (not_lt.2 (add_nonneg (mul_self_nonneg _) (mul_self_nonneg _))), ← pow_two, ← pow_two]

/-- No magnitude is negative. -/
theorem freq_nonneg (i : S128x16385.Idx) : (0 : EReal) ≤ freq x i := by
  obtain ⟨r, k, rfl⟩ : ∃ (r : Fin 128) (k : Fin 16385), i = ix2 r k := ⟨i 0, i 1, by pointwise⟩
  rw [freq_at x y hy]
  split
  · exact le_refl _
  · exact_mod_cast Real.sqrt_nonneg _

/-- The threshold is zero. -/
theorem thr_at (j : S_.Idx) : thr x j = (0 : EReal) := by
  unfold thr
  have hsub : Subsingleton S_.Idx := ⟨fun a b => funext fun i => i.elim0⟩
  refine Selection.least_eq_zero _ _ _ _ _ ?_ ?_ (ValueIdx.ix2 (0 : Fin 128) (0 : Fin 5)) ?_
  · show (0 : EReal) ≤ Ideal.ofBits .f32 0x7F800000#32
    simp [Ideal.ofBits, Ideal.ieee]
  · intro i
    obtain ⟨r, l, hi⟩ : ∃ (r : Fin 128) (l : Fin 5), i = ix2 r l := ⟨i 0, i 1, by pointwise⟩
    rw [hi, ix2_eq_valueIdx]
    obtain ⟨k, hk⟩ := Selection.top_mem (FloatOps.cmpfTotal (F := Ideal) (φ := .f32) .gt) (freq x) sliceFits_S128x16385_S128x5 r l
    rw [hk]
    exact freq_nonneg x y hy _
  · obtain ⟨k, hk⟩ := Selection.top_mem (FloatOps.cmpfTotal (F := Ideal) (φ := .f32) .gt) (freq x) sliceFits_S128x16385_S128x5 (0 : Fin 128) (0 : Fin 5)
    rw [hk, ← ix2_eq_valueIdx, freq_at x y hy]
    rfl

/-- A part of the transform as kept: zero in row 0, the part itself elsewhere, if the part is zero wherever the magnitude is. -/
theorem kept_at (p : FVec Ideal S128x16385 .f32) (pR : Fin 128 → Fin 16385 → ℝ) (hp : ∀ r k, p (ix2 r k) = (pR r k : EReal))
    (hle : ∀ r k, pR r k ^ 2 ≤ reR y r k ^ 2 + imR y r k ^ 2) (r : Fin 128) (k : Fin 16385) :
    kept x p (ix2 r k) = ((if r.val = 0 then 0 else pR r k : ℝ) : EReal) := by
  have h : kept x p (ix2 r k) = if freq x (ix2 r k) ≤ 0 then (0 : EReal) else p (ix2 r k) := by
    unfold kept
    have ht : thr x = fun _ => (0 : EReal) := funext (thr_at x y hy)
    rw [ht]
    simp only [id_eq]
    pointwise
  rw [h, freq_at x y hy, hp]
  by_cases hr : r.val = 0
  · simp [hr]
  · rw [if_neg hr, if_neg hr]
    by_cases hs : Real.sqrt (reR y r k ^ 2 + imR y r k ^ 2) ≤ 0
    · rw [if_pos (by exact_mod_cast hs)]
      have h0 := Real.sqrt_eq_zero'.1 (le_antisymm hs (Real.sqrt_nonneg _))
      have h1 : pR r k = 0 := by
        have := (hle r k).trans h0
        exact pow_eq_zero_iff (two_ne_zero) |>.1 (le_antisymm this (sq_nonneg _))
      rw [h1, EReal.coe_zero]
    · rw [if_neg (by exact_mod_cast hs)]

/-- The real parts as kept. -/
theorem kept_re (r : Fin 128) (k : Fin 16385) : kept x (re x) (ix2 r k) = ((if r.val = 0 then 0 else reR y r k : ℝ) : EReal) :=
  kept_at x y hy _ _ (re_at x y hy) (fun _ _ => le_add_of_nonneg_right (sq_nonneg _)) r k

/-- The imaginary parts as kept. -/
theorem kept_im (r : Fin 128) (k : Fin 16385) : kept x (im x) (ix2 r k) = ((if r.val = 0 then 0 else imR y r k : ℝ) : EReal) :=
  kept_at x y hy _ _ (im_at x y hy) (fun _ _ => le_add_of_nonneg_left (sq_nonneg _)) r k

/-- The seasonal part: zero in row 0, the argument elsewhere. -/
theorem season_at (r : Fin 128) (s : Fin 32768) : season x (ix2 r s) = if r.val = 0 then (0 : EReal) else x (ix2 r s) := by
  have h : season x (ix2 r s) = (back (kept x (re x)) (Host.cos angles) (ix2 r s) - back (kept x (im x)) (Host.sin angles) (ix2 r s))
      * ((1 / 32768 : ℝ) : EReal) := by
    unfold season
    rw [← inv_length_word]
    generalize back (kept x (re x)) (Host.cos angles) = a
    generalize back (kept x (im x)) (Host.sin angles) = b
    pointwise
  have hc : back (kept x (re x)) (Host.cos angles) (ix2 r s)
      = ((∑ k : Fin 16385, (if r.val = 0 then 0 else reR y r k) * Fourier.weight 16384 k.val * Real.cos (Fourier.angle 32768 s.val k.val) : ℝ) : EReal) := by
    rw [back_at, coe_total]
    exact Finset.sum_congr rfl fun k _ => by rw [kept_re x y hy, weights_at, cos_at, EReal.coe_mul, EReal.coe_mul]
  have hs : back (kept x (im x)) (Host.sin angles) (ix2 r s)
      = ((∑ k : Fin 16385, (if r.val = 0 then 0 else imR y r k) * Fourier.weight 16384 k.val * Real.sin (Fourier.angle 32768 s.val k.val) : ℝ) : EReal) := by
    rw [back_at, coe_total]
    exact Finset.sum_congr rfl fun k _ => by rw [kept_im x y hy, weights_at, sin_at, EReal.coe_mul, EReal.coe_mul]
  rw [h, hc, hs, ← EReal.coe_sub, ← EReal.coe_mul]
  by_cases hr : r.val = 0
  · simp [hr]
  · simp only [if_neg hr]
    have hinv := Fourier.inversion_at (M := 16384) (N := 32768) (K := 16385) (by norm_num) (by norm_num) (by norm_num) (y r) s
    unfold reR imR
    rw [hy, hinv, show ((32768 : ℕ) : ℝ) * y r s * (1 / 32768) = y r s by rw [Nat.cast_ofNat]; ring]

end Values

end Cert.ReferenceIdeal.Steps

end
-- ==== Proof.Finite.lean ====
/-
  What the precondition says: every entry of the argument is a real number.
-/
module

public import proofs.«01_k».proof.Proof.Gen.Pre_finite
public import Idealize.ShloMosaic.Lib.Pointwise
public import Idealize.ShloMosaic.Lib.ReduceAll
public import Idealize.ShloMosaic.Lib.WordCmp
public import Idealize.ShloMosaic.PureOps.Ideal.Laws

@[expose] public section

noncomputable section

open Idealize.ShloMosaic

namespace Cert.Pre_finite.Reading

open Cert.Pre_finite Cert.Pre_finite.Gen

/-- The word of the bound is positive infinity. -/
theorem inf_word : Ideal.ofBits .f32 0x7F800000#32 = (⊤ : EReal) := by
  simp [Ideal.ofBits, Ideal.ieee]

/-- Under the precondition every entry is a real number. -/
theorem real (x : FVec Ideal S128x32768 .f32) (h : Cert.Pre_finite.fn (F := Ideal) x = fun _ => 1#1) (i : S128x32768.Idx) :
    ∃ y : ℝ, x i = (y : EReal) := by
  dsimp only [Cert.Pre_finite.fn] at h
  have hsub : Subsingleton S_.Idx := ⟨fun a b => funext fun i => i.elim0⟩
  have hi := Host.reduce_andi_all _ _ _ _ ix0 (congrFun h ix0) i
  have hlt : max (x i) (-x i) < (⊤ : EReal) := by
    have e : BitVec.ofBool (decide (max (x i) (-x i) < Ideal.ofBits .f32 0x7F800000#32)) = 1#1 := hi
    rw [inf_word, WordCmp.ofBool_decide_eq_one_iff] at e
    exact e
  rw [max_lt_iff] at hlt
  have hb : x i ≠ (⊥ : EReal) := fun e => by
    have := hlt.2
    rw [e, EReal.neg_bot] at this
    exact lt_irrefl _ this
  exact ⟨(x i : EReal).toReal, (EReal.coe_toReal hlt.1.ne hb).symm⟩

end Cert.Pre_finite.Reading

end
-- ==== Proof.Equation.lean ====
/-
  The equation: for an argument of real entries, the reference's seasonal part is zero in row 0 and the argument elsewhere,
  and its residual is the argument in row 0 and zero elsewhere. These are the kernel's two arrays.
-/
module

public import proofs.«01_k».proof.Proof.KernelValue
public import proofs.«01_k».proof.Proof.Spectrum
public import proofs.«01_k».proof.Proof.Finite

@[expose] public section

noncomputable section

open Idealize.ShloMosaic Idealize.ShloMosaic.TcCoe Idealize.SL.Sem

namespace Cert.Equation

/-- The kernel's zero is the number zero. -/
theorem zero_eq : Cert.KernelIdeal.Arrays.zero (F := Ideal) = (0 : EReal) := Ideal.ofBits_zero_f32

/-- The seasonal part at every index. -/
theorem season_at (x : FVec Ideal ⟨2, ![128, 32768]⟩ .f32) (h : Cert.Pre_finite.fn (F := Ideal) x = fun _ => 1#1)
    (i : Shape.Idx ⟨2, ![128, 32768]⟩) :
    Cert.ReferenceIdeal.Steps.season x i = if (i 0).val = 0 then (0 : EReal) else x i := by
  choose y hy using fun i => Cert.Pre_finite.Reading.real x h i
  obtain ⟨r, t, rfl⟩ : ∃ (r : Fin 128) (t : Fin 32768), i = ix2 r t := ⟨i 0, i 1, by pointwise⟩
  exact Cert.ReferenceIdeal.Steps.season_at x (fun r t => y (ix2 r t)) (fun r t => hy (ix2 r t)) r t

variable (m : (ℓ : Loc Cert.KernelIdeal.nD Cert.KernelIdeal.τ Cert.KernelIdeal.sig) → Buf (Elt Ideal) ℓ)
  (c : Dev Cert.KernelIdeal.nD) (h : Cert.Pre_finite.fn (F := Ideal) (Cert.KernelIdeal.Arrays.arg m c) = fun _ => 1#1)

include h

/-- The seasonal parts agree. -/
theorem season_eq : Cert.ReferenceIdeal.Steps.season (Cert.KernelIdeal.Arrays.arg m c) = Cert.KernelIdeal.Arrays.season m c :=
  funext fun i => (season_at _ h i).trans (if_congr Iff.rfl zero_eq.symm rfl)

/-- The residuals agree. -/
theorem resid_eq : subf (Cert.KernelIdeal.Arrays.arg m c) (Cert.ReferenceIdeal.Steps.season (Cert.KernelIdeal.Arrays.arg m c))
    = Cert.KernelIdeal.Arrays.resid m c := by
  funext i
  show (Cert.KernelIdeal.Arrays.arg m c i : EReal) - Cert.ReferenceIdeal.Steps.season (Cert.KernelIdeal.Arrays.arg m c) i
    = if (i 0).val = 0 then Cert.KernelIdeal.Arrays.arg m c i else Cert.KernelIdeal.Arrays.zero
  obtain ⟨y, hy⟩ := Cert.Pre_finite.Reading.real _ h i
  rw [season_at _ h i, zero_eq]
  by_cases hr : (i 0).val = 0
  · rw [if_pos hr, if_pos hr, hy, ← EReal.coe_zero, ← EReal.coe_sub, sub_zero]
  · rw [if_neg hr, if_neg hr, hy, ← EReal.coe_sub, sub_self, EReal.coe_zero]

end Cert.Equation

end
-- ==== Proof.lean ====
/-
  The certificate's claim, assembled: the runs of the kernel, of its reading over the extended reals and of the reference;
  that nothing was rewritten between the first two; and that the second's two results equal the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs, leaves its argument as it was and every semaphore at zero. -/
theorem kernel_frame : Cert.quiescent_Kernel (hKernel := Cert.Kernel.Gen.facts) :=
  fun m ρ _ => Cert.Kernel.Gen.frame m ρ

/-- So does its reading over the extended reals. -/
theorem ideal_frame : Cert.quiescent_KernelIdeal (hKernelIdeal := Cert.KernelIdeal.Gen.facts) :=
  fun m ρ _ => Cert.KernelIdeal.Gen.frame m ρ

/-- So does the reference. -/
theorem reference_frame : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The two results of the kernel equal those of the reference. -/
theorem results_agree : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => Cert.KernelIdeal.Arrays.resid m c, fun c => Cert.KernelIdeal.Arrays.season m c,
    Cert.KernelIdeal.Arrays.run m ρ, ?_⟩
  refine (θ_run Cert.ReferenceIdeal.defs _ _).mono (fun r h c => ⟨?_, ?_, (h c).2.2⟩) (Cert.ReferenceIdeal.Value.run (F := Ideal) m' ρ')
  · refine ((h c).1.trans (Cert.ReferenceIdeal.Steps.out0_eq m' c)).trans ?_
    rw [hagree c]
    exact Cert.Equation.resid_eq m c (hpre c)
  · refine ((h c).2.1.trans (Cert.ReferenceIdeal.Steps.out1_eq m' c)).trans ?_
    rw [hagree c]
    exact Cert.Equation.season_eq m c (hpre c)

theorem claim : Cert.Claim :=
  ⟨Cert.Kernel.Gen.facts, Cert.KernelIdeal.Gen.facts, Cert.ReferenceIdeal.Gen.facts, Cert.Pre_finite.Gen.facts,
    kernel_frame, ideal_frame, fun m ρ _ => ideal_frame m ρ trivial, reference_frame, fun m ρ _ => reference_frame m ρ trivial,
    trivial, results_agree⟩

end Cert.Proof

end
